-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S10000x128 : Shape := ⟨2, ![10000, 128]⟩
abbrev S2x320000 : Shape := ⟨2, ![2, 320000]⟩
abbrev S320000 : Shape := ⟨1, ![320000]⟩
abbrev S8x128x128 : Shape := ⟨3, ![8, 128, 128]⟩
abbrev S8x8 : Shape := ⟨2, ![8, 8]⟩
abbrev S128x128 : Shape := ⟨2, ![128, 128]⟩
abbrev S128 : Shape := ⟨1, ![128]⟩
abbrev S1x320000 : Shape := ⟨2, ![1, 320000]⟩
abbrev S_ : Shape := ⟨0, ![]⟩

class Facts : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)

variable [Facts]

def fn {F : FTy → Type} [FloatOps F] (main_arg0 : FVec F S10000x128 .f32) (main_arg1 : IVec S2x320000 32) (main_arg2 : IVec S320000 32) (main_arg3 : FVec F S8x128x128 .f32) (main_arg4 : FVec F S8x8 .f32) (main_arg5 : FVec F S128x128 .f32) (main_arg6 : FVec F S128 .f32) (main_arg7 : FVec F S128 .f32) (main_arg8 : FVec F S128 .f32) (main_arg9 : FVec F S8x128x128 .f32) (main_arg10 : FVec F S8x8 .f32) (main_arg11 : FVec F S128x128 .f32) (main_arg12 : FVec F S128 .f32) (main_arg13 : FVec F S128 .f32) (main_arg14 : FVec F S128 .f32) (main_arg15 : FVec F S8x128x128 .f32) (main_arg16 : FVec F S8x8 .f32) (main_arg17 : FVec F S128x128 .f32) (main_arg18 : FVec F S128 .f32) : IVec S320000 1 :=
  let main_v0 : IVec S1x320000 32 := (extractStridedSlice S1x320000 ![1, 0] · slices_S2x320000_S1x320000_1_0) main_arg1
  let main_v1 : IVec S320000 32 := shapeCast S320000 main_v0 shapeCasts_S1x320000_S320000
  let main_c : IVec S_ 32 := constantI S_ 32 0#32
  let main_v2 : IVec S320000 32 := broadcastInDim S320000 ![] bcast_S_S320000 main_c
  let main_v3 : IVec S320000 1 := cmpi .sge main_v1 main_v2
  let main_c_0 : IVec S_ 32 := constantI S_ 32 10000#32
  let main_v4 : IVec S320000 32 := broadcastInDim S320000 ![] bcast_S_S320000 main_c_0
  let main_v5 : IVec S320000 1 := cmpi .slt main_v1 main_v4
  let main_v6 : IVec S320000 1 := andi main_v3 main_v5
  let main_c_1 : IVec S_ 32 := constantI S_ 32 0#32
  let main_v7 : IVec S320000 32 := broadcastInDim S320000 ![] bcast_S_S320000 main_c_1
  let main_v8 : IVec S320000 1 := cmpi .sge main_arg2 main_v7
  let main_v9 : IVec S320000 1 := andi main_v6 main_v8
  let main_c_2 : IVec S_ 32 := constantI S_ 32 8#32
  let main_v10 : IVec S320000 32 := broadcastInDim S320000 ![] bcast_S_S320000 main_c_2
  let main_v11 : IVec S320000 1 := cmpi .slt main_arg2 main_v10
  let main_v12 : IVec S320000 1 := andi main_v9 main_v11
  main_v12
-- ==== Kernel.lean ====
abbrev S10000x128 : Shape := ⟨2, ![10000, 128]⟩
abbrev S2x320000 : Shape := ⟨2, ![2, 320000]⟩
abbrev S320000 : Shape := ⟨1, ![320000]⟩
abbrev S8x128x128 : Shape := ⟨3, ![8, 128, 128]⟩
abbrev S8x8 : Shape := ⟨2, ![8, 8]⟩
abbrev S128x128 : Shape := ⟨2, ![128, 128]⟩
abbrev S128 : Shape := ⟨1, ![128]⟩
abbrev S1x320000 : Shape := ⟨2, ![1, 320000]⟩
abbrev S_ : Shape := ⟨0, ![]⟩
abbrev S80000 : Shape := ⟨1, ![80000]⟩
abbrev S320000x1 : Shape := ⟨2, ![320000, 1]⟩
abbrev S8x10000x1 : Shape := ⟨3, ![8, 10000, 1]⟩
abbrev S320000x128 : Shape := ⟨2, ![320000, 128]⟩
abbrev S80000x128 : Shape := ⟨2, ![80000, 128]⟩
abbrev S8x10000x128 : Shape := ⟨3, ![8, 10000, 128]⟩
abbrev S1x128 : Shape := ⟨2, ![1, 128]⟩
abbrev S8x1000x128 : Shape := ⟨3, ![8, 1000, 128]⟩
abbrev S8x1000x1 : Shape := ⟨3, ![8, 1000, 1]⟩
abbrev S1000x128 : Shape := ⟨2, ![1000, 128]⟩
abbrev S1x1000x128 : Shape := ⟨3, ![1, 1000, 128]⟩
abbrev S1x1000x1 : Shape := ⟨3, ![1, 1000, 1]⟩
abbrev S1000x1 : Shape := ⟨2, ![1000, 1]⟩
abbrev S1x128x128 : Shape := ⟨3, ![1, 128, 128]⟩
abbrev S10000 : Shape := ⟨1, ![10000]⟩
abbrev S10000x1 : Shape := ⟨2, ![10000, 1]⟩

abbrev nBuf : Space → Nat
  | .hbm => 205
  | .vmem => 33
  | .smem => 0
  | _ => 0

abbrev hbmTy0_0 (i : Nat) : BufTy := match i % 128 with
  | 0 => ⟨S10000x128, .f32⟩
  | 1 => ⟨S2x320000, .i32⟩
  | 2 => ⟨S320000, .i32⟩
  | 3 => ⟨S8x128x128, .f32⟩
  | 4 => ⟨S8x8, .f32⟩
  | 5 => ⟨S128x128, .f32⟩
  | 6 => ⟨S128, .f32⟩
  | 7 => ⟨S128, .f32⟩
  | 8 => ⟨S128, .f32⟩
  | 9 => ⟨S8x128x128, .f32⟩
  | 10 => ⟨S8x8, .f32⟩
  | 11 => ⟨S128x128, .f32⟩
  | 12 => ⟨S128, .f32⟩
  | 13 => ⟨S128, .f32⟩
  | 14 => ⟨S128, .f32⟩
  | 15 => ⟨S8x128x128, .f32⟩
  | 16 => ⟨S8x8, .f32⟩
  | 17 => ⟨S128x128, .f32⟩
  | 18 => ⟨S128, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S320000, .i32⟩
  | 25 => ⟨S320000, .i32⟩
  | 26 => ⟨S320000, .i32⟩
  | 27 => ⟨S_, .f32⟩
  | 28 => ⟨S320000, .f32⟩
  | 29 => ⟨S_, .f32⟩
  | 30 => ⟨S80000, .f32⟩
  | 31 => ⟨S320000x1, .i32⟩
  | 32 => ⟨S80000, .f32⟩
  | 33 => ⟨S_, .f32⟩
  | 34 => ⟨S80000, .f32⟩
  | 35 => ⟨S80000, .f32⟩
  | 36 => ⟨S_, .f32⟩
  | 37 => ⟨S80000, .f32⟩
  | 38 => ⟨S80000, .f32⟩
  | 39 => ⟨S8x10000x1, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x128, .f32⟩
  | 49 => ⟨S_, .f32⟩
  | 50 => ⟨S80000x128, .f32⟩
  | 51 => ⟨S320000x1, .i32⟩
  | 52 => ⟨S80000x128, .f32⟩
  | 53 => ⟨S8x10000x128, .f32⟩
  | 54 => ⟨S8x128x128, .f32⟩
  | 55 => ⟨S1x128, .f32⟩
  | 56 => ⟨S10000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S10000x128, .f32⟩
  | 70 => ⟨S10000x128, .f32⟩
  | 71 => ⟨S10000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S10000x128, .f32⟩
  | 87 => ⟨S10000x128, .f32⟩
  | 88 => ⟨S_, .f32⟩
  | 89 => ⟨S128, .f32⟩
  | 90 => ⟨S128, .f32⟩
  | 91 => ⟨S128, .f32⟩
  | 92 => ⟨S1x128, .f32⟩
  | 93 => ⟨S10000x128, .f32⟩
  | 94 => ⟨S10000x128, .f32⟩
  | 95 => ⟨S1x128, .f32⟩
  | 96 => ⟨S10000x128, .f32⟩
  | 97 => ⟨S10000x128, .f32⟩
  | 98 => ⟨S1x128, .f32⟩
  | 99 => ⟨S10000x128, .f32⟩
  | 100 => ⟨S10000x128, .f32⟩
  | 101 => ⟨S_, .f32⟩
  | 102 => ⟨S_, .f32⟩
  | 103 => ⟨S10000x128, .f32⟩
  | 104 => ⟨S10000x128, .i1⟩
  | 105 => ⟨S_, .f32⟩
  | 106 => ⟨S10000x128, .f32⟩
  | 107 => ⟨S10000x128, .f32⟩
  | 108 => ⟨S10000x128, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x128, .f32⟩
  | 118 => ⟨S_, .f32⟩
  | 119 => ⟨S80000x128, .f32⟩
  | 120 => ⟨S320000x1, .i32⟩
  | 121 => ⟨S80000x128, .f32⟩
  | 122 => ⟨S8x10000x128, .f32⟩
  | 123 => ⟨S8x128x128, .f32⟩
  | 124 => ⟨S1x128, .f32⟩
  | 125 => ⟨S10000x128, .f32⟩
  | 126 => ⟨S_, .f32⟩
  | 127 => ⟨S128, .f32⟩
  | _ => ⟨S10000x128, .f32⟩

abbrev hbmTy0_1 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S10000x128, .f32⟩
  | 11 => ⟨S10000x128, .f32⟩
  | 12 => ⟨S10000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S10000x128, .f32⟩
  | 28 => ⟨S10000x128, .f32⟩
  | 29 => ⟨S_, .f32⟩
  | 30 => ⟨S128, .f32⟩
  | 31 => ⟨S128, .f32⟩
  | 32 => ⟨S128, .f32⟩
  | 33 => ⟨S1x128, .f32⟩
  | 34 => ⟨S10000x128, .f32⟩
  | 35 => ⟨S10000x128, .f32⟩
  | 36 => ⟨S1x128, .f32⟩
  | 37 => ⟨S10000x128, .f32⟩
  | 38 => ⟨S10000x128, .f32⟩
  | 39 => ⟨S1x128, .f32⟩
  | 40 => ⟨S10000x128, .f32⟩
  | 41 => ⟨S10000x128, .f32⟩
  | 42 => ⟨S_, .f32⟩
  | 43 => ⟨S_, .f32⟩
  | 44 => ⟨S10000x128, .f32⟩
  | 45 => ⟨S10000x128, .i1⟩
  | 46 => ⟨S_, .f32⟩
  | 47 => ⟨S10000x128, .f32⟩
  | 48 => ⟨S10000x128, .f32⟩
  | 49 => ⟨S10000x128, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x128, .f32⟩
  | 59 => ⟨S_, .f32⟩
  | 60 => ⟨S80000x128, .f32⟩
  | 61 => ⟨S320000x1, .i32⟩
  | 62 => ⟨S80000x128, .f32⟩
  | 63 => ⟨S8x10000x128, .f32⟩
  | 64 => ⟨S8x128x128, .f32⟩
  | 65 => ⟨S1x128, .f32⟩
  | 66 => ⟨S10000x128, .f32⟩
  | 67 => ⟨S10000x128, .f32⟩
  | 68 => ⟨S_, .f32⟩
  | 69 => ⟨S10000, .f32⟩
  | 70 => ⟨S10000x1, .f32⟩
  | 71 => ⟨S10000x1, .f32⟩
  | 72 => ⟨S_, .f32⟩
  | 73 => ⟨S10000x1, .f32⟩
  | 74 => ⟨S10000x1, .f32⟩
  | 75 => ⟨S10000x128, .f32⟩
  | 76 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S8x1000x128, .f32⟩
  | .local _ .vmem, ⟨1, _⟩ => ⟨S8x1000x128, .f32⟩
  | .local _ .vmem, ⟨2, _⟩ => ⟨S8x1000x1, .f32⟩
  | .local _ .vmem, ⟨3, _⟩ => ⟨S8x1000x1, .f32⟩
  | .local _ .vmem, ⟨4, _⟩ => ⟨S1000x128, .f32⟩
  | .local _ .vmem, ⟨5, _⟩ => ⟨S1000x128, .f32⟩
  | .local _ .vmem, ⟨6, _⟩ => ⟨S8x128x128, .f32⟩
  | .local _ .vmem, ⟨7, _⟩ => ⟨S128x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S8x1000x128, .f32⟩
  | .local _ .vmem, ⟨12, _⟩ => ⟨S8x1000x128, .f32⟩
  | .local _ .vmem, ⟨13, _⟩ => ⟨S8x1000x1, .f32⟩
  | .local _ .vmem, ⟨14, _⟩ => ⟨S8x1000x1, .f32⟩
  | .local _ .vmem, ⟨15, _⟩ => ⟨S1000x128, .f32⟩
  | .local _ .vmem, ⟨16, _⟩ => ⟨S1000x128, .f32⟩
  | .local _ .vmem, ⟨17, _⟩ => ⟨S8x128x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S8x1000x128, .f32⟩
  | .local _ .vmem, ⟨23, _⟩ => ⟨S8x1000x128, .f32⟩
  | .local _ .vmem, ⟨24, _⟩ => ⟨S8x1000x1, .f32⟩
  | .local _ .vmem, ⟨25, _⟩ => ⟨S8x1000x1, .f32⟩
  | .local _ .vmem, ⟨26, _⟩ => ⟨S1000x128, .f32⟩
  | .local _ .vmem, ⟨27, _⟩ => ⟨S1000x128, .f32⟩
  | .local _ .vmem, ⟨28, _⟩ => ⟨S8x128x128, .f32⟩
  | .local _ .vmem, ⟨29, _⟩ => ⟨S128x128, .f32⟩
  | .local _ .vmem, ⟨30, _⟩ => ⟨S1x128, .f32⟩
  | .local _ .vmem, ⟨31, _⟩ => ⟨S1000x128, .f32⟩
  | .local _ .vmem, ⟨32, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_9 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_10 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v49 : Ref sig .tc := ⟨.hbm, 108, rfl⟩
abbrev main_c_11 : Ref sig .tc := ⟨.hbm, 109, rfl⟩
abbrev main_v50 : Ref sig .tc := ⟨.hbm, 110, rfl⟩
abbrev main_v51 : Ref sig .tc := ⟨.hbm, 111, rfl⟩
abbrev main_c_12 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_13 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_14 : Ref sig .tc := ⟨.hbm, 126, rfl⟩
abbrev main_v64 : Ref sig .tc := ⟨.hbm, 127, rfl⟩
abbrev main_cst_15 : Ref sig .tc := ⟨.hbm, 128, rfl⟩
abbrev main_v65 : Ref sig .tc := ⟨.hbm, 129, rfl⟩
abbrev main_v66 : Ref sig .tc := ⟨.hbm, 130, rfl⟩
abbrev main_c_16 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_cst_3 : Ref sig .tc := ⟨.hbm, 148, rfl⟩
abbrev main_call2_v12 : Ref sig .tc := ⟨.hbm, 149, rfl⟩
abbrev main_call2_cst_4 : Ref sig .tc := ⟨.hbm, 150, rfl⟩
abbrev main_call2_call0_v0 : Ref sig .tc := ⟨.hbm, 151, rfl⟩
abbrev main_call2_call0_v1 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_cst_17 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_18 : Ref sig .tc := ⟨.hbm, 170, rfl⟩
abbrev main_call3_cst : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_v83 : Ref sig .tc := ⟨.hbm, 177, rfl⟩
abbrev main_c_19 : Ref sig .tc := ⟨.hbm, 178, rfl⟩
abbrev main_v84 : Ref sig .tc := ⟨.hbm, 179, rfl⟩
abbrev main_v85 : Ref sig .tc := ⟨.hbm, 180, rfl⟩
abbrev main_c_20 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_21 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_call4_v0 : Ref sig .tc := ⟨.hbm, 195, rfl⟩
abbrev main_call4_cst : Ref sig .tc := ⟨.hbm, 196, rfl⟩
abbrev main_call4_v1 : Ref sig .tc := ⟨.hbm, 197, rfl⟩
abbrev main_call4_v2 : Ref sig .tc := ⟨.hbm, 198, rfl⟩
abbrev main_v98 : Ref sig .tc := ⟨.hbm, 199, rfl⟩
abbrev main_cst_22 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S8x128x128 : Shape := ⟨3, ![8, 128, 128]⟩
abbrev S8x8 : Shape := ⟨2, ![8, 8]⟩
abbrev S128x128 : Shape := ⟨2, ![128, 128]⟩
abbrev S128 : Shape := ⟨1, ![128]⟩
abbrev S1x320000 : Shape := ⟨2, ![1, 320000]⟩
abbrev S_ : Shape := ⟨0, ![]⟩
abbrev S320000x1 : Shape := ⟨2, ![320000, 1]⟩
abbrev S320000x128 : Shape := ⟨2, ![320000, 128]⟩
abbrev S80000x128 : Shape := ⟨2, ![80000, 128]⟩
abbrev S80000 : Shape := ⟨1, ![80000]⟩
abbrev S80000x1 : Shape := ⟨2, ![80000, 1]⟩
abbrev S10000x8x128 : Shape := ⟨3, ![10000, 8, 128]⟩
abbrev S1x128 : Shape := ⟨2, ![1, 128]⟩
abbrev S10000 : Shape := ⟨1, ![10000]⟩
abbrev S10000x1 : Shape := ⟨2, ![10000, 1]⟩

abbrev nBuf : Space → Nat
  | .hbm => 256
  | .vmem => 0
  | .smem => 0
  | _ => 0

abbrev hbmTy0_0 (i : Nat) : BufTy := match i % 128 with
  | 0 => ⟨S10000x128, .f32⟩
  | 1 => ⟨S2x320000, .i32⟩
  | 2 => ⟨S320000, .i32⟩
  | 3 => ⟨S8x128x128, .f32⟩
  | 4 => ⟨S8x8, .f32⟩
  | 5 => ⟨S128x128, .f32⟩
  | 6 => ⟨S128, .f32⟩
  | 7 => ⟨S128, .f32⟩
  | 8 => ⟨S128, .f32⟩
  | 9 => ⟨S8x128x128, .f32⟩
  | 10 => ⟨S8x8, .f32⟩
  | 11 => ⟨S128x128, .f32⟩
  | 12 => ⟨S128, .f32⟩
  | 13 => ⟨S128, .f32⟩
  | 14 => ⟨S128, .f32⟩
  | 15 => ⟨S8x128x128, .f32⟩
  | 16 => ⟨S8x8, .f32⟩
  | 17 => ⟨S128x128, .f32⟩
  | 18 => ⟨S128, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S320000, .i32⟩
  | 25 => ⟨S320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S_, .f32⟩
  | 37 => ⟨S80000x128, .f32⟩
  | 38 => ⟨S320000x1, .i32⟩
  | 39 => ⟨S80000x128, .f32⟩
  | 40 => ⟨S_, .f32⟩
  | 41 => ⟨S320000, .f32⟩
  | 42 => ⟨S_, .f32⟩
  | 43 => ⟨S80000, .f32⟩
  | 44 => ⟨S320000x1, .i32⟩
  | 45 => ⟨S80000, .f32⟩
  | 46 => ⟨S_, .f32⟩
  | 47 => ⟨S80000, .f32⟩
  | 48 => ⟨S80000, .f32⟩
  | 49 => ⟨S80000x1, .f32⟩
  | 50 => ⟨S80000x128, .f32⟩
  | 51 => ⟨S80000x128, .f32⟩
  | 52 => ⟨S10000x8x128, .f32⟩
  | 53 => ⟨S8x128x128, .f32⟩
  | 54 => ⟨S10000x128, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S10000x128, .f32⟩
  | 73 => ⟨S10000x128, .f32⟩
  | 74 => ⟨S10000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S10000x128, .f32⟩
  | 90 => ⟨S10000x128, .f32⟩
  | 91 => ⟨S_, .f32⟩
  | 92 => ⟨S128, .f32⟩
  | 93 => ⟨S128, .f32⟩
  | 94 => ⟨S128, .f32⟩
  | 95 => ⟨S1x128, .f32⟩
  | 96 => ⟨S10000x128, .f32⟩
  | 97 => ⟨S10000x128, .f32⟩
  | 98 => ⟨S1x128, .f32⟩
  | 99 => ⟨S10000x128, .f32⟩
  | 100 => ⟨S10000x128, .f32⟩
  | 101 => ⟨S1x128, .f32⟩
  | 102 => ⟨S10000x128, .f32⟩
  | 103 => ⟨S10000x128, .f32⟩
  | 104 => ⟨S_, .f32⟩
  | 105 => ⟨S_, .f32⟩
  | 106 => ⟨S10000x128, .f32⟩
  | 107 => ⟨S10000x128, .i1⟩
  | 108 => ⟨S_, .f32⟩
  | 109 => ⟨S10000x128, .f32⟩
  | 110 => ⟨S10000x128, .f32⟩
  | 111 => ⟨S10000x128, .f32⟩
  | 112 => ⟨S1x320000, .i32⟩
  | 113 => ⟨S320000, .i32⟩
  | 114 => ⟨S1x320000, .i32⟩
  | 115 => ⟨S320000, .i32⟩
  | 116 => ⟨S_, .i32⟩
  | 117 => ⟨S320000, .i32⟩
  | 118 => ⟨S320000, .i32⟩
  | 119 => ⟨S320000, .i32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_1 (i : Nat) : BufTy := match i % 128 with
  | 0 => ⟨S320000x128, .f32⟩
  | 1 => ⟨S_, .f32⟩
  | 2 => ⟨S80000x128, .f32⟩
  | 3 => ⟨S320000x1, .i32⟩
  | 4 => ⟨S80000x128, .f32⟩
  | 5 => ⟨S_, .f32⟩
  | 6 => ⟨S320000, .f32⟩
  | 7 => ⟨S_, .f32⟩
  | 8 => ⟨S80000, .f32⟩
  | 9 => ⟨S320000x1, .i32⟩
  | 10 => ⟨S80000, .f32⟩
  | 11 => ⟨S_, .f32⟩
  | 12 => ⟨S80000, .f32⟩
  | 13 => ⟨S80000, .f32⟩
  | 14 => ⟨S80000x1, .f32⟩
  | 15 => ⟨S80000x128, .f32⟩
  | 16 => ⟨S80000x128, .f32⟩
  | 17 => ⟨S10000x8x128, .f32⟩
  | 18 => ⟨S8x128x128, .f32⟩
  | 19 => ⟨S10000x128, .f32⟩
  | 20 => ⟨S10000x128, .f32⟩
  | 21 => ⟨S10000x128, .f32⟩
  | 22 => ⟨S1x128, .f32⟩
  | 23 => ⟨S10000x128, .f32⟩
  | 24 => ⟨S10000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S10000x128, .f32⟩
  | 38 => ⟨S10000x128, .f32⟩
  | 39 => ⟨S10000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S10000x128, .f32⟩
  | 55 => ⟨S10000x128, .f32⟩
  | 56 => ⟨S_, .f32⟩
  | 57 => ⟨S128, .f32⟩
  | 58 => ⟨S128, .f32⟩
  | 59 => ⟨S128, .f32⟩
  | 60 => ⟨S1x128, .f32⟩
  | 61 => ⟨S10000x128, .f32⟩
  | 62 => ⟨S10000x128, .f32⟩
  | 63 => ⟨S1x128, .f32⟩
  | 64 => ⟨S10000x128, .f32⟩
  | 65 => ⟨S10000x128, .f32⟩
  | 66 => ⟨S1x128, .f32⟩
  | 67 => ⟨S10000x128, .f32⟩
  | 68 => ⟨S10000x128, .f32⟩
  | 69 => ⟨S_, .f32⟩
  | 70 => ⟨S_, .f32⟩
  | 71 => ⟨S10000x128, .f32⟩
  | 72 => ⟨S10000x128, .i1⟩
  | 73 => ⟨S_, .f32⟩
  | 74 => ⟨S10000x128, .f32⟩
  | 75 => ⟨S10000x128, .f32⟩
  | 76 => ⟨S10000x128, .f32⟩
  | 77 => ⟨S1x320000, .i32⟩
  | 78 => ⟨S320000, .i32⟩
  | 79 => ⟨S1x320000, .i32⟩
  | 80 => ⟨S320000, .i32⟩
  | 81 => ⟨S_, .i32⟩
  | 82 => ⟨S320000, .i32⟩
  | 83 => ⟨S320000, .i32⟩
  | 84 => ⟨S320000, .i32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x128, .f32⟩
  | 94 => ⟨S_, .f32⟩
  | 95 => ⟨S80000x128, .f32⟩
  | 96 => ⟨S320000x1, .i32⟩
  | 97 => ⟨S80000x128, .f32⟩
  | 98 => ⟨S_, .f32⟩
  | 99 => ⟨S320000, .f32⟩
  | 100 => ⟨S_, .f32⟩
  | 101 => ⟨S80000, .f32⟩
  | 102 => ⟨S320000x1, .i32⟩
  | 103 => ⟨S80000, .f32⟩
  | 104 => ⟨S_, .f32⟩
  | 105 => ⟨S80000, .f32⟩
  | 106 => ⟨S80000, .f32⟩
  | 107 => ⟨S80000x1, .f32⟩
  | 108 => ⟨S80000x128, .f32⟩
  | 109 => ⟨S80000x128, .f32⟩
  | 110 => ⟨S10000x8x128, .f32⟩
  | 111 => ⟨S8x128x128, .f32⟩
  | 112 => ⟨S10000x128, .f32⟩
  | 113 => ⟨S10000x128, .f32⟩
  | 114 => ⟨S10000x128, .f32⟩
  | 115 => ⟨S1x128, .f32⟩
  | 116 => ⟨S10000x128, .f32⟩
  | 117 => ⟨S10000x128, .f32⟩
  | 118 => ⟨S10000x128, .f32⟩
  | 119 => ⟨S_, .f32⟩
  | 120 => ⟨S10000, .f32⟩
  | 121 => ⟨S10000x1, .f32⟩
  | 122 => ⟨S10000x1, .f32⟩
  | 123 => ⟨S_, .f32⟩
  | 124 => ⟨S10000x1, .f32⟩
  | 125 => ⟨S10000x1, .f32⟩
  | 126 => ⟨S10000x128, .f32⟩
  | 127 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_8 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_9 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_10 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_11 : Ref sig .tc := ⟨.hbm, 120, rfl⟩
abbrev main_v61 : Ref sig .tc := ⟨.hbm, 121, rfl⟩
abbrev main_v62 : Ref sig .tc := ⟨.hbm, 122, rfl⟩
abbrev main_c_12 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_13 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_cst_14 : Ref sig .tc := ⟨.hbm, 133, rfl⟩
abbrev main_v71 : Ref sig .tc := ⟨.hbm, 134, rfl⟩
abbrev main_cst_15 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_16 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_17 : Ref sig .tc := ⟨.hbm, 153, rfl⟩
abbrev main_v88 : Ref sig .tc := ⟨.hbm, 154, rfl⟩
abbrev main_cst_18 : Ref sig .tc := ⟨.hbm, 155, rfl⟩
abbrev main_v89 : Ref sig .tc := ⟨.hbm, 156, rfl⟩
abbrev main_v90 : Ref sig .tc := ⟨.hbm, 157, rfl⟩
abbrev main_c_19 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_cst_3 : Ref sig .tc := ⟨.hbm, 175, rfl⟩
abbrev main_call2_v12 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_20 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_cst_21 : Ref sig .tc := ⟨.hbm, 197, rfl⟩
abbrev main_call3_cst : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_call3_v3 : Ref sig .tc := ⟨.hbm, 202, rfl⟩
abbrev main_call3_v4 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_c_22 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_c_23 : Ref sig .tc := ⟨.hbm, 213, rfl⟩
abbrev main_v115 : Ref sig .tc := ⟨.hbm, 214, rfl⟩
abbrev main_v116 : Ref sig .tc := ⟨.hbm, 215, rfl⟩
abbrev main_c_24 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_cst_25 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_cst_26 : Ref sig .tc := ⟨.hbm, 226, rfl⟩
abbrev main_v125 : Ref sig .tc := ⟨.hbm, 227, rfl⟩
abbrev main_cst_27 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_cst_28 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_call4_v0 : Ref sig .tc := ⟨.hbm, 246, rfl⟩
abbrev main_call4_cst : Ref sig .tc := ⟨.hbm, 247, rfl⟩
abbrev main_call4_v1 : Ref sig .tc := ⟨.hbm, 248, rfl⟩
abbrev main_call4_v2 : Ref sig .tc := ⟨.hbm, 249, rfl⟩
abbrev main_v142 : Ref sig .tc := ⟨.hbm, 250, rfl⟩
abbrev main_cst_29 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩

abbrev nD : Nat := 1
abbrev τ : Topo := Topo.v7x

variable {F : FTy → Type} [FloatOps F]
-- ==== Proof.KernelRun.lean ====
/- The run of the kernel program: it ends, nothing faulting, with every buffer of the device at the contents that
   the fold through the host stretches and the three kernel calls gives. -/
module

public import proofs.«01_k».proof.Proof.Gen.KernelIdeal.Frame

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters, every weakly fair execution of the kernel program ends, and on every device
    each unscoped buffer then holds what the last boundary of the fold gives it. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h _ => h)

end Cert.KernelIdeal.Run

end
-- ==== Proof.Layers.lean ====
/- The pieces of the network as functions of arrays: the edges' ends, the messages, the sums over a segment, batch
   normalisation, the leaky rectifier and the final scaling of the rows. -/
module

public import proofs.«01_k».proof.Proof.Gen.KernelIdeal

@[expose] public section

set_option maxRecDepth 16384

noncomputable section

namespace Cert.KernelIdeal.Layers

open Cert.KernelIdeal Cert.KernelIdeal.Gen
open Idealize.ShloMosaic

variable {F : FTy → Type} [FloatOps F]

/-- The integer `n` at every edge. -/
def edgeConst (n : BitVec 32) : IVec S320000 32 := broadcastInDim S320000 ![] bcast_S_S320000 (constantI S_ 32 n)

/-- Each edge's source node. -/
def source (e : IVec S2x320000 32) : IVec S320000 32 :=
  shapeCast S320000 (extractStridedSlice S1x320000 ![0, 0] e slices_S2x320000_S1x320000_0_0) shapeCasts_S1x320000_S320000

/-- Each edge's destination node. -/
def target (e : IVec S2x320000 32) : IVec S320000 32 :=
  shapeCast S320000 (extractStridedSlice S1x320000 ![1, 0] e slices_S2x320000_S1x320000_1_0) shapeCasts_S1x320000_S320000

/-- An edge array as a column. -/
def column (s : IVec S320000 32) : IVec S320000x1 32 := broadcastInDim S320000x1 ![0] bcast_S320000_S320000x1_0 s

/-- Each edge's message: the row of `x` at the edge's source, a negative source counting from the end. -/
def messagesAt (x : FVec F S10000x128 .f32) (s : IVec S320000 32) : FVec F S320000x128 .f32 :=
  Host.gather gather_S10000x128_S320000x1_S320000x128_1_0_n_n_0_1_1128 x
    (column (select (cmpi .slt s (edgeConst 0#32)) (addi s (edgeConst 10000#32)) s))

/-- Each edge's message, from the array of the edges' ends. -/
def messages (x : FVec F S10000x128 .f32) (e : IVec S2x320000 32) : FVec F S320000x128 .f32 := messagesAt x (source e)

/-- Each edge's segment with the relations outermost. -/
def byRelation (e : IVec S2x320000 32) (t : IVec S320000 32) : IVec S320000 32 :=
  addi (muli t (edgeConst 10000#32)) (target e)

/-- Each edge's segment with the nodes outermost. -/
def byNode (e : IVec S2x320000 32) (t : IVec S320000 32) : IVec S320000 32 :=
  addi (muli (target e) (edgeConst 8#32)) t

/-- The sum of the messages of each segment. -/
def sums (s : IVec S320000 32) (u : FVec F S320000x128 .f32) : FVec F S80000x128 .f32 :=
  Host.scatterAdd scatter_S80000x128_S320000x1_S320000x128_1_0_0_1
    (broadcastInDim S80000x128 ![] bcast_S_S80000x128 (constant S_ .f32 0x00000000#32)) (column s) u

/-- One at every segment. -/
def segmentOnes : FVec F S80000 .f32 := broadcastInDim S80000 ![] bcast_S_S80000 (constant S_ .f32 0x3F800000#32)

/-- The number of edges of each segment. -/
def edges (s : IVec S320000 32) : FVec F S80000 .f32 :=
  Host.scatterAdd scatter_S80000_S320000x1_S320000_n_0_0_1
    (broadcastInDim S80000 ![] bcast_S_S80000 (constant S_ .f32 0x00000000#32)) (column s)
    (broadcastInDim S320000 ![] bcast_S_S320000 (constant S_ .f32 0x3F800000#32))

/-- The number of edges of each segment, one where there are none. -/
def counts (s : IVec S320000 32) : FVec F S80000 .f32 := maximumf (edges s) segmentOnes

/-- One over the counts, by relation and node. -/
def inverses (s : IVec S320000 32) : FVec F S8x10000x1 .f32 :=
  shapeCast S8x10000x1 (Host.divf segmentOnes (counts s)) shapeCasts_S80000_S8x10000x1

/-- The sums of the messages, by relation and node. -/
def sumsByRelation (s : IVec S320000 32) (u : FVec F S320000x128 .f32) : FVec F S8x10000x128 .f32 :=
  shapeCast S8x10000x128 (sums s u) shapeCasts_S80000x128_S8x10000x128

/-- The relations' matrices out of the coefficients and the basis. -/
def matrices (comp : FVec F S8x8 .f32) (basis : FVec F S8x128x128 .f32) : FVec F S8x128x128 .f32 :=
  Host.dotGeneral dot_S8x8_S8x128x128_S8x128x128_1_0_0_12_n_n none comp basis

/-- A row of 128 numbers as a matrix of one row. -/
def asRow (v : FVec F S128 .f32) : FVec F S1x128 .f32 := shapeCast S1x128 v shapeCasts_S128_S1x128

/-- A row of 128 numbers at each of the 10000 rows. -/
def everyRow (v : FVec F S128 .f32) : FVec F S10000x128 .f32 :=
  broadcastInDim S10000x128 ![0, 1] bcast_S1x128_S10000x128_0_1 (broadcastInDim S1x128 ![1] bcast_S128_S1x128_1 v)

/-- The sum of each column. -/
def columnSums (y : FVec F S10000x128 .f32) : FVec F S128 .f32 :=
  Host.reduceAdd y (constant S_ .f32 0x00000000#32) reducesTo_S10000x128_S128_d0 h_S_

/-- The mean of each column. -/
def mean (y : FVec F S10000x128 .f32) : FVec F S128 .f32 :=
  Host.divf (columnSums y) (broadcastInDim S128 ![] bcast_S_S128 (constant S_ .f32 0x461C4000#32))

/-- The rows less the columns' means, as the variance takes them. -/
def centred (y : FVec F S10000x128 .f32) : FVec F S10000x128 .f32 :=
  subf y (broadcastInDim S10000x128 ![0, 1] bcast_S1x128_S10000x128_0_1
    (Host.divf (broadcastInDim S1x128 ![1] bcast_S128_S1x128_1 (columnSums y))
      (broadcastInDim S1x128 ![] bcast_S_S1x128 (constant S_ .f32 0x461C4000#32))))

/-- The number the variance divides by. -/
def freedom : FVec F S_ .f32 := subf (constant S_ .f32 0x461C4000#32) (sitofp .f32 (constantI S_ 32 0#32))

/-- The variance of each column. -/
def variance (y : FVec F S10000x128 .f32) : FVec F S128 .f32 :=
  select (broadcastInDim S128 ![] bcast_S_S128 (cmpf .ogt (freedom (F := F)) (constant S_ .f32 0x00000000#32)))
    (Host.divf (columnSums (mulf (centred y) (centred y))) (broadcastInDim S128 ![] bcast_S_S128 freedom))
    (broadcastInDim S128 ![] bcast_S_S128 (id (constant S_ .f32 0x7FC00000#32)))

/-- Batch normalisation with scale `g` and shift `b`. -/
def batchNorm (y : FVec F S10000x128 .f32) (g b : FVec F S128 .f32) : FVec F S10000x128 .f32 :=
  addf (mulf (Host.divf (subf y (everyRow (mean y)))
      (everyRow (Host.sqrt (addf (variance y) (broadcastInDim S128 ![] bcast_S_S128 (constant S_ .f32 0x3727C5AC#32))))))
    (everyRow g)) (everyRow b)

/-- The leaky rectifier of slope one tenth. -/
def leaky (y : FVec F S10000x128 .f32) : FVec F S10000x128 .f32 :=
  select (cmpf .oge y (broadcastInDim S10000x128 ![] bcast_S_S10000x128 (constant S_ .f32 0x00000000#32))) y
    (mulf (broadcastInDim S10000x128 ![] bcast_S_S10000x128 (id (constant S_ .f32 0x3DCCCCCD#32))) y)

/-- Each row over its length, the length kept away from zero. -/
def unitRows (y : FVec F S10000x128 .f32) : FVec F S10000x128 .f32 :=
  Host.divf y (broadcastInDim S10000x128 ![0, 1] bcast_S10000x1_S10000x128_0_1
    (maximumf (Host.sqrt (broadcastInDim S10000x1 ![0] bcast_S10000_S10000x1_0
        (Host.reduceAdd (mulf y y) (constant S_ .f32 0x00000000#32) reducesTo_S10000x128_S10000_d1 h_S_)))
      (broadcastInDim S10000x1 ![] bcast_S_S10000x1 (constant S_ .f32 0x2B8CBCCC#32))))

end Cert.KernelIdeal.Layers

end
-- ==== Proof.Segments.lean ====
/- The sums over segments: which edges a segment takes, and that the two numberings of the segments take the same
   edges when every edge's node and relation are in range. -/
module

public import proofs.«01_k».proof.Proof.Layers
public import Idealize.ShloMosaic.Lib.Routing.OpsPair
public import Idealize.ShloMosaic.Lib.Pointwise

@[expose] public section

set_option maxRecDepth 16384

noncomputable section

namespace Cert.KernelIdeal.Segments

open Cert.KernelIdeal Cert.KernelIdeal.Gen Cert.KernelIdeal.Layers
open Idealize.ShloMosaic
open scoped BigOperators

/-- An edge's number in the column is its number in the array. -/
theorem column_apply (s : IVec S320000 32) (j : Fin 320000) : column s (ix2 j 0) = s (ix1 j) := by
  unfold column
  pointwise

/-- The index the matrix of sums reads for an update is the update's edge. -/
theorem start2 (s : IVec S320000x1 32) (j : Fin 320000) (q : Fin 128) :
    scatter_S80000x128_S320000x1_S320000x128_1_0_0_1.start (ix2 j q) s 0 = (s (ix2 j 0)).toInt := by
  have h : scatter_S80000x128_S320000x1_S320000x128_1_0_0_1.siIdx (ix2 j q) ⟨0, by decide⟩ = ix2 j 0 := by
    funext a
    match a with
    | ⟨0, _⟩ => rfl
    | ⟨1, _⟩ => rfl
  exact congrArg (fun i => (s i).toInt) h

/-- The index the counts read for an update is the update's edge. -/
theorem start1 (s : IVec S320000x1 32) (j : Fin 320000) :
    scatter_S80000_S320000x1_S320000_n_0_0_1.start (ix1 j) s 0 = (s (ix2 j 0)).toInt := by
  have h : scatter_S80000_S320000x1_S320000_n_0_0_1.siIdx (ix1 j) ⟨0, by decide⟩ = ix2 j 0 := by
    funext a
    match a with
    | ⟨0, _⟩ => rfl
    | ⟨1, _⟩ => rfl
  exact congrArg (fun i => (s i).toInt) h

/-- An update of the matrix of sums lands at row `p`, column `k` when its edge's segment is `p` and its column is `k`. -/
theorem lands2 (s : IVec S320000 32) (j : Fin 320000) (q k : Fin 128) (p : Fin 80000) :
    scatter_S80000x128_S320000x1_S320000x128_1_0_0_1.resultIdx? (ix2 j q) (column s) = some (ix2 p k)
      ↔ (s (ix1 j)).toInt = p.val ∧ q = k := by
  have h1 : scatter_S80000x128_S320000x1_S320000x128_1_0_0_1.start (ix2 j q) (column s) 1 = 0 := rfl
  have w0 : scatter_S80000x128_S320000x1_S320000x128_1_0_0_1.window (ix2 j q) 0 = 0 := rfl
  have w1 : scatter_S80000x128_S320000x1_S320000x128_1_0_0_1.window (ix2 j q) 1 = q.val := rfl
  refine (Routing.resultIdx?_ix2 _ _ _ p k).trans ?_
  rw [start2, h1, w0, w1, column_apply, Fin.ext_iff]
  omega

/-- An update of the counts lands at `p` when its edge's segment is `p`. -/
theorem lands1 (s : IVec S320000 32) (j : Fin 320000) (p : Fin 80000) :
    scatter_S80000_S320000x1_S320000_n_0_0_1.resultIdx? (ix1 j) (column s) = some (ix1 p)
      ↔ (s (ix1 j)).toInt = p.val := by
  have w0 : scatter_S80000_S320000x1_S320000_n_0_0_1.window (ix1 j) 0 = 0 := rfl
  refine (Routing.resultIdx?_ix1 _ _ _ p).trans ?_
  rw [start1, w0, column_apply]
  omega

/-- A sum of messages is the sum over the edges that land there. -/
theorem sums_apply (s : IVec S320000 32) (u : FVec Ideal S320000x128 .f32) (i : S80000x128.Idx) : sums s u i
    = ∑ j ∈ Finset.univ.filter (fun j => scatter_S80000x128_S320000x1_S320000x128_1_0_0_1.resultIdx? j (column s) = some i), u j := by
  unfold sums
  simp only [Host.scatterAdd, Ideal.hostScatterAdd_def, Ideal.hostScatterAdd]
  have h0 : (broadcastInDim S80000x128 ![] bcast_S_S80000x128 (constant (F := Ideal) S_ .f32 0x00000000#32)) i = (0 : EReal) := by
    pointwise
  rw [h0, zero_add]

/-- A count is the sum of ones over the edges that land there. -/
theorem edges_apply (s : IVec S320000 32) (i : S80000.Idx) : edges (F := Ideal) s i
    = ∑ _j ∈ Finset.univ.filter (fun j => scatter_S80000_S320000x1_S320000_n_0_0_1.resultIdx? j (column s) = some i), (1 : EReal) := by
  unfold edges
  simp only [Host.scatterAdd, Ideal.hostScatterAdd_def, Ideal.hostScatterAdd]
  have h0 : (broadcastInDim S80000 ![] bcast_S_S80000 (constant (F := Ideal) S_ .f32 0x00000000#32)) i = (0 : EReal) := by
    pointwise
  have h1 : ∀ j, (broadcastInDim S320000 ![] bcast_S_S320000 (constant (F := Ideal) S_ .f32 0x3F800000#32)) j = (1 : EReal) := by
    intro j
    pointwise
  rw [h0, zero_add]
  exact Finset.sum_congr rfl fun j _ => h1 j

/-- Two numberings that put the same edges at `p` and at `p'` give the same sum there. -/
theorem sums_congr {s s' : IVec S320000 32} {p p' : Fin 80000}
    (h : ∀ j : Fin 320000, (s (ix1 j)).toInt = p.val ↔ (s' (ix1 j)).toInt = p'.val)
    (u : FVec Ideal S320000x128 .f32) (k : Fin 128) : sums s u (ix2 p k) = sums s' u (ix2 p' k) := by
  rw [sums_apply, sums_apply]
  refine Finset.sum_congr (Finset.filter_congr fun j _ => ?_) fun _ _ => rfl
  obtain ⟨a, b, rfl⟩ : ∃ (a : Fin 320000) (b : Fin 128), j = ix2 a b := ⟨j 0, j 1, eq_ix2 j⟩
  rw [lands2, lands2, h]

/-- Two numberings that put the same edges at `p` and at `p'` give the same count there. -/
theorem edges_congr {s s' : IVec S320000 32} {p p' : Fin 80000}
    (h : ∀ j : Fin 320000, (s (ix1 j)).toInt = p.val ↔ (s' (ix1 j)).toInt = p'.val) :
    edges (F := Ideal) s (ix1 p) = edges s' (ix1 p') := by
  rw [edges_apply, edges_apply]
  refine Finset.sum_congr (Finset.filter_congr fun j _ => ?_) fun _ _ => rfl
  obtain ⟨a, rfl⟩ : ∃ a : Fin 320000, j = ix1 a := ⟨j 0, eq_ix1 j⟩
  rw [lands1, lands1, h]

/-- Every edge's node is below 10000 and its relation below 8, neither negative. -/
def InRange (e : IVec S2x320000 32) (t : IVec S320000 32) : Prop :=
  ∀ j : Fin 320000, (0 ≤ (target e (ix1 j)).toInt ∧ (target e (ix1 j)).toInt < 10000)
    ∧ 0 ≤ (t (ix1 j)).toInt ∧ (t (ix1 j)).toInt < 8

/-- On words in range both numberings are computed without wrapping round. -/
theorem word_iff (d t : BitVec 32) (hd : 0 ≤ d.toInt ∧ d.toInt < 10000) (ht : 0 ≤ t.toInt ∧ t.toInt < 8)
    {r n : Nat} (hr : r < 8) (hn : n < 10000) :
    (t * 10000#32 + d).toInt = ((r * 10000 + n : Nat) : Int) ↔ (d * 8#32 + t).toInt = ((n * 8 + r : Nat) : Int) := by
  have h1 : (t * 10000#32 + d).toInt = t.toInt * 10000 + d.toInt := by
    rw [BitVec.toInt_add, BitVec.toInt_mul, show (10000#32 : BitVec 32).toInt = 10000 from rfl]
    simp only [Int.bmod_def]
    omega
  have h2 : (d * 8#32 + t).toInt = d.toInt * 8 + t.toInt := by
    rw [BitVec.toInt_add, BitVec.toInt_mul, show (8#32 : BitVec 32).toInt = 8 from rfl]
    simp only [Int.bmod_def]
    omega
  rw [h1, h2]
  omega

/-- In range, the edges at relation `r` of node `n` are the same in both numberings. -/
theorem same_edges {e : IVec S2x320000 32} {t : IVec S320000 32} (h : InRange e t) {r n : Nat} (hr : r < 8) (hn : n < 10000)
    (j : Fin 320000) : (byRelation e t (ix1 j)).toInt = ((r * 10000 + n : Nat) : Int)
      ↔ (byNode e t (ix1 j)).toInt = ((n * 8 + r : Nat) : Int) :=
  word_iff _ _ (h j).1 (h j).2 hr hn

end Cert.KernelIdeal.Segments

end
-- ==== Proof.Range.lean ====
/- What the precondition says of each edge: its node is below 10000 and its relation below 8, neither negative. -/
module

public import proofs.«01_k».proof.Pre_edges_in_range
public import proofs.«01_k».proof.Proof.Segments
public import Idealize.ShloMosaic.Lib.StableHlo.Predicate

@[expose] public section

set_option maxRecDepth 16384

noncomputable section

namespace Cert.KernelIdeal.Range

open Cert.KernelIdeal Cert.KernelIdeal.Layers Cert.KernelIdeal.Segments
open Idealize.ShloMosaic

/-- The relations of shape the precondition's operations take. -/
theorem preFacts : Cert.Pre_edges_in_range.Facts where
  slices_S2x320000_S1x320000_1_0 := by decide
  shapeCasts_S1x320000_S320000 := by decide
  bcast_S_S320000 := by decide

/-- Two one-bit words meet in one exactly when both are one. -/
theorem andi_eq_one (a b : BitVec 1) : IntOp.andi a b = 1#1 ↔ a = 1#1 ∧ b = 1#1 := by
  revert a b; decide

/-- A word is at least another, as signed integers, when the comparison answers one. -/
theorem sge_eq_one {a b : BitVec 32} (h : IntOp.cmpi .sge a b = 1#1) : b.toInt ≤ a.toInt := by
  have := (StableHlo.Predicate.ofBool_eq_one_iff _).1 h
  simpa [BitVec.sle] using this

/-- A word is below another, as signed integers, when the comparison answers one. -/
theorem slt_eq_one {a b : BitVec 32} (h : IntOp.cmpi .slt a b = 1#1) : a.toInt < b.toInt := by
  have := (StableHlo.Predicate.ofBool_eq_one_iff _).1 h
  simpa [BitVec.slt] using this

/-- The precondition's four comparisons put an edge in range. -/
theorem word_range {d t : BitVec 32}
    (h : IntOp.andi (IntOp.andi (IntOp.andi (IntOp.cmpi .sge d 0#32) (IntOp.cmpi .slt d 10000#32)) (IntOp.cmpi .sge t 0#32))
      (IntOp.cmpi .slt t 8#32) = 1#1) : (0 ≤ d.toInt ∧ d.toInt < 10000) ∧ 0 ≤ t.toInt ∧ t.toInt < 8 := by
  rw [andi_eq_one, andi_eq_one, andi_eq_one] at h
  exact ⟨⟨sge_eq_one h.1.1.1, slt_eq_one h.1.1.2⟩, sge_eq_one h.1.2, slt_eq_one h.2⟩

/-- Under the precondition the edges are in range. -/
theorem inRange_of_pre {a0 : FVec Ideal S10000x128 .f32} {a1 : IVec S2x320000 32} {a2 : IVec S320000 32}
    {a3 a9 a15 : FVec Ideal S8x128x128 .f32} {a4 a10 a16 : FVec Ideal S8x8 .f32} {a5 a11 a17 : FVec Ideal S128x128 .f32}
    {a6 a7 a8 a12 a13 a14 a18 : FVec Ideal S128 .f32}
    (h : @Cert.Pre_edges_in_range.fn preFacts Ideal _ a0 a1 a2 a3 a4 a5 a6 a7 a8 a9 a10 a11 a12 a13 a14 a15 a16 a17 a18
      = fun _ => 1#1) : InRange a1 a2 :=
  fun j => word_range (congrFun h (ix1 j))

end Cert.KernelIdeal.Range

end
-- ==== Proof.Dense.lean ====
/- One dense block of the kernel, as a function of whole arrays. -/
module

public import proofs.«01_k».proof.Proof.Gen.KernelIdeal.Frame
public import Idealize.ShloMosaic.Lib.Pipeline.ValueKit

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

/-- Entry `(n, o)` of a dense layer over `rows` rows: row `n` of `x` times `root`, plus for each of the eight
    relations row `n` of that relation's sum of messages, scaled by the relation's factor for `n`, times the
    relation's matrix, plus the bias. -/
def entry {rows : Nat} (agg : (⟨3, ![8, rows, 128]⟩ : Shape).Idx → EReal) (inv : (⟨3, ![8, rows, 1]⟩ : Shape).Idx → EReal)
    (x : (⟨2, ![rows, 128]⟩ : Shape).Idx → EReal) (w : S8x128x128.Idx → EReal) (root : S128x128.Idx → EReal)
    (bias : S1x128.Idx → EReal) (n : Fin rows) (o : Fin 128) : EReal :=
  (∑ k : Fin 128, x (ix2 n k) * root (ix2 k o))
    + (∑ r : Fin 8, ∑ k : Fin 128, (agg (ix3 r n k) * inv (ix3 r n 0)) * w (ix3 r k o)) + bias (ix2 0 o)

/-- The dense layer on all 10000 rows. -/
def dense (agg : Vec Ideal S8x10000x128 .f32) (inv : Vec Ideal S8x10000x1 .f32) (x : Vec Ideal S10000x128 .f32)
    (w : Vec Ideal S8x128x128 .f32) (root : Vec Ideal S128x128 .f32) (bias : Vec Ideal S1x128 .f32) :
    Vec Ideal S10000x128 .f32 :=
  fun i => entry (rows := 10000) agg inv x w root bias (i 0) (i 1)

/-- What the body stores at an entry of its block is the dense layer's entry over the block's rows. -/
theorem out0_entry (x0 : Vec Ideal S8x1000x128 .f32) (x1 : Vec Ideal S8x1000x1 .f32) (x2 : Vec Ideal S1000x128 .f32)
    (x3 : Vec Ideal S8x128x128 .f32) (x4 : Vec Ideal S128x128 .f32) (x5 : Vec Ideal S1x128 .f32) (y : S1000x128.Idx) :
    out0_6 x0 x1 x2 x3 x4 x5 y = entry (rows := 1000) x0 x1 x2 x3 x4 x5 (y 0) (y 1) := by
  unfold out0_6
  frame_out
  unfold k0_pay7 k0_pay6 k0_pay5 k0_pay4 k0_pay3 k0_pay2 k0_pay1
  pointwise
  simp only [entry, Fin.sum_univ_eight, add_assoc]

/-- The second call's body stores the same entry as the first's. -/
theorem out1_entry (x0 : Vec Ideal S8x1000x128 .f32) (x1 : Vec Ideal S8x1000x1 .f32) (x2 : Vec Ideal S1000x128 .f32)
    (x3 : Vec Ideal S8x128x128 .f32) (x4 : Vec Ideal S128x128 .f32) (x5 : Vec Ideal S1x128 .f32) (y : S1000x128.Idx) :
    out1_6 x0 x1 x2 x3 x4 x5 y = entry (rows := 1000) x0 x1 x2 x3 x4 x5 (y 0) (y 1) := by
  unfold out1_6
  frame_out
  unfold k1_pay7 k1_pay6 k1_pay5 k1_pay4 k1_pay3 k1_pay2 k1_pay1
  pointwise
  simp only [entry, Fin.sum_univ_eight, add_assoc]

/-- The third call's body stores the same entry as the first's. -/
theorem out2_entry (x0 : Vec Ideal S8x1000x128 .f32) (x1 : Vec Ideal S8x1000x1 .f32) (x2 : Vec Ideal S1000x128 .f32)
    (x3 : Vec Ideal S8x128x128 .f32) (x4 : Vec Ideal S128x128 .f32) (x5 : Vec Ideal S1x128 .f32) (y : S1000x128.Idx) :
    out2_6 x0 x1 x2 x3 x4 x5 y = entry (rows := 1000) x0 x1 x2 x3 x4 x5 (y 0) (y 1) := by
  unfold out2_6
  frame_out
  unfold k2_pay7 k2_pay6 k2_pay5 k2_pay4 k2_pay3 k2_pay2 k2_pay1
  pointwise
  simp only [entry, Fin.sum_univ_eight, add_assoc]

/-- An entry of a layer over a block of rows is the entry of the layer over all rows at the row's place, when each
    of the block's reads is the whole array's at that place. -/
theorem entry_congr {rows : Nat} {agg : (⟨3, ![8, rows, 128]⟩ : Shape).Idx → EReal} {inv : (⟨3, ![8, rows, 1]⟩ : Shape).Idx → EReal}
    {x : (⟨2, ![rows, 128]⟩ : Shape).Idx → EReal} {w : S8x128x128.Idx → EReal} {root : S128x128.Idx → EReal}
    {bias : S1x128.Idx → EReal} {agg' : Vec Ideal S8x10000x128 .f32} {inv' : Vec Ideal S8x10000x1 .f32}
    {x' : Vec Ideal S10000x128 .f32} {w' : Vec Ideal S8x128x128 .f32} {root' : Vec Ideal S128x128 .f32}
    {bias' : Vec Ideal S1x128 .f32} {n : Fin rows} {o : Fin 128} {i : S10000x128.Idx}
    (hagg : ∀ r k, agg (ix3 r n k) = agg' (ix3 r (i 0) k)) (hinv : ∀ r, inv (ix3 r n 0) = inv' (ix3 r (i 0) 0))
    (hx : ∀ k, x (ix2 n k) = x' (ix2 (i 0) k)) (hw : ∀ r k, w (ix3 r k o) = w' (ix3 r k (i 1)))
    (hroot : ∀ k, root (ix2 k o) = root' (ix2 k (i 1))) (hbias : bias (ix2 0 o) = bias' (ix2 0 (i 1))) :
    entry agg inv x w root bias n o = dense agg' inv' x' w' root' bias' i := by
  simp only [entry, dense, hagg, hinv, hx, hw, hroot, hbias]

variable (V : (c : Dev nD) → (b : Ref sig .tc) → Buf (Elt Ideal) ((c : Thread nD τ).loc b))

set_option maxHeartbeats 2000000 in
/-- After the first call its output array is the dense layer of its input arrays. -/
theorem region0 (c : Dev nD) : (dat0 V c).arrAt 6 cfg0.N
    = dense (V c main_v26) (V c main_v15) (V c main_arg0) (V c main_v27) (V c main_arg5) (V c main_v28) := by
  refine (dat0 V c).arrAt_eq_of_covers 6 _ (by decide +kernel) fun t hf y => ?_
  blk_simp
  rw [after0_6, out0_entry]
  have idx : ∀ t : Fin grid0.N, win0_0.index t = ![0, (grid0.coords t 0).val, 0] ∧ win0_1.index t = ![0, (grid0.coords t 0).val, 0]
      ∧ win0_2.index t = ![(grid0.coords t 0).val, 0] ∧ win0_3.index t = ![0, 0, 0] ∧ win0_4.index t = ![0, 0]
      ∧ win0_5.index t = ![0, 0] ∧ win0_6.index t = ![(grid0.coords t 0).val, 0] := by decide +kernel
  refine entry_congr ?_ ?_ ?_ ?_ ?_ ?_ <;> intros <;> blk_ext [iblk0, idx t]

set_option maxHeartbeats 2000000 in
/-- After the second call its output array is the dense layer of its input arrays. -/
theorem region1 (c : Dev nD) : (dat1 V c).arrAt 6 cfg1.N
    = dense (V c main_v60) (V c main_v15) (V c main_v49) (V c main_v61) (V c main_arg11) (V c main_v62) := by
  refine (dat1 V c).arrAt_eq_of_covers 6 _ (by decide +kernel) fun t hf y => ?_
  blk_simp
  rw [after1_6, out1_entry]
  have idx : ∀ t : Fin grid1.N, win1_0.index t = ![0, (grid1.coords t 0).val, 0] ∧ win1_1.index t = ![0, (grid1.coords t 0).val, 0]
      ∧ win1_2.index t = ![(grid1.coords t 0).val, 0] ∧ win1_3.index t = ![0, 0, 0] ∧ win1_4.index t = ![0, 0]
      ∧ win1_5.index t = ![0, 0] ∧ win1_6.index t = ![(grid1.coords t 0).val, 0] := by decide +kernel
  refine entry_congr ?_ ?_ ?_ ?_ ?_ ?_ <;> intros <;> blk_ext [iblk1, idx t]

set_option maxHeartbeats 2000000 in
/-- After the third call its output array is the dense layer of its input arrays. -/
theorem region2 (c : Dev nD) : (dat2 V c).arrAt 6 cfg2.N
    = dense (V c main_v94) (V c main_v15) (V c main_v83) (V c main_v95) (V c main_arg17) (V c main_v96) := by
  refine (dat2 V c).arrAt_eq_of_covers 6 _ (by decide +kernel) fun t hf y => ?_
  blk_simp
  rw [after2_6, out2_entry]
  have idx : ∀ t : Fin grid2.N, win2_0.index t = ![0, (grid2.coords t 0).val, 0] ∧ win2_1.index t = ![0, (grid2.coords t 0).val, 0]
      ∧ win2_2.index t = ![(grid2.coords t 0).val, 0] ∧ win2_3.index t = ![0, 0, 0] ∧ win2_4.index t = ![0, 0]
      ∧ win2_5.index t = ![0, 0] ∧ win2_6.index t = ![(grid2.coords t 0).val, 0] := by decide +kernel
  refine entry_congr ?_ ?_ ?_ ?_ ?_ ?_ <;> intros <;> blk_ext [iblk2, idx t]

end Cert.KernelIdeal.Dense

end
-- ==== Proof.Reads.lean ====
/- What the kernel program's lines of host operations leave in the arrays that are read later, from any contents. -/
module

public import proofs.«01_k».proof.Proof.Layers
public import proofs.«01_k».proof.Proof.Gen.KernelIdeal.Frame
public import Idealize.ShloMosaic.Lib.StableHlo.RunRead

@[expose] public section

set_option maxRecDepth 16384

noncomputable section

namespace Cert.KernelIdeal.Reads

open Cert.KernelIdeal Cert.KernelIdeal.Gen Cert.KernelIdeal.Layers
open Idealize.ShloMosaic Idealize.ShloMosaic.TcCoe Idealize.ShloMosaic.StableHlo

variable {F : FTy → Type} [FloatOps F] (V : Valuation τ sig (Elt F))

/-- A buffer of the TensorCore in the contents `V`. -/
abbrev rd (V : Valuation τ sig (Elt F)) (r : Ref sig .tc) : (Proc.devRef .tc r : DevRef τ sig).ty.Contents (Elt F) :=
  V (Proc.devRef .tc r)

/-- The first line leaves the edges' sources. -/
theorem first_source : rd (after hostOps0 V) main_v1
    = source (rd V main_arg1) := by
  after_reads_simp
  rfl

/-- The first line leaves the edges' segments, the relations outermost. -/
theorem first_segments : rd (after hostOps0 V) main_v6
    = byRelation (rd V main_arg1) (rd V main_arg2) := by
  after_reads_simp
  rfl

/-- The first line leaves one over the counts. -/
theorem first_inverses : rd (after hostOps0 V) main_v15
    = inverses (byRelation (rd V main_arg1) (rd V main_arg2)) := by
  after_reads_simp
  rfl

/-- The first line leaves the sums of the first layer's messages. -/
theorem first_sums : rd (after hostOps0 V) main_v26
    = sumsByRelation (byRelation (rd V main_arg1) (rd V main_arg2)) (messages (rd V main_arg0) (rd V main_arg1)) := by
  after_reads_simp
  rfl

/-- The first line leaves the first layer's matrices. -/
theorem first_matrices : rd (after hostOps0 V) main_v27
    = matrices (rd V main_arg4) (rd V main_arg3) := by
  after_reads_simp
  rfl

/-- The first line leaves the first layer's bias as one row. -/
theorem first_bias : rd (after hostOps0 V) main_v28
    = asRow (rd V main_arg6) := by
  after_reads_simp
  rfl

/-- The lines after the first call normalise its output and take the leaky rectifier of it. -/
theorem second_input : rd (after hostOps1_3 (after hostOps1_2 (after hostOps1_1 (after hostOps1 V)))) main_v49
    = leaky (batchNorm (rd V main_v29) (rd V main_arg7) (rd V main_arg8)) := by
  after_reads_simp
  rfl

/-- The line before the second call leaves the sums of its messages. -/
theorem second_sums : rd (after hostOps1_4 V) main_v60
    = sumsByRelation (rd V main_v6) (messagesAt (rd V main_v49) (rd V main_v1)) := by
  after_reads_simp
  rfl

/-- The line before the second call leaves its matrices. -/
theorem second_matrices : rd (after hostOps1_4 V) main_v61
    = matrices (rd V main_arg10) (rd V main_arg9) := by
  after_reads_simp
  rfl

/-- The line before the second call leaves its bias as one row. -/
theorem second_bias : rd (after hostOps1_4 V) main_v62
    = asRow (rd V main_arg12) := by
  after_reads_simp
  rfl

/-- The lines after the second call normalise its output and take the leaky rectifier of it. -/
theorem third_input : rd (after hostOps2_3 (after hostOps2_2 (after hostOps2_1 (after hostOps2 V)))) main_v83
    = leaky (batchNorm (rd V main_v63) (rd V main_arg13) (rd V main_arg14)) := by
  after_reads_simp
  rfl

/-- The line before the third call leaves the sums of its messages. -/
theorem third_sums : rd (after hostOps2_4 V) main_v94
    = sumsByRelation (rd V main_v6) (messagesAt (rd V main_v83) (rd V main_v1)) := by
  after_reads_simp
  rfl

/-- The line before the third call leaves its matrices. -/
theorem third_matrices : rd (after hostOps2_4 V) main_v95
    = matrices (rd V main_arg16) (rd V main_arg15) := by
  after_reads_simp
  rfl

/-- The line before the third call leaves its bias as one row. -/
theorem third_bias : rd (after hostOps2_4 V) main_v96
    = asRow (rd V main_arg18) := by
  after_reads_simp
  rfl

/-- The last lines scale the rows of the third call's output. -/
theorem last : rd (after hostOps3_1 (after hostOps3 V)) main_v102
    = unitRows (rd V main_v97) := by
  after_reads_simp
  rfl

end Cert.KernelIdeal.Reads

end
-- ==== Proof.KernelValue.lean ====
/- What the kernel program's result array holds: three dense layers with normalisation between them. -/
module

public import proofs.«01_k».proof.Proof.Dense
public import proofs.«01_k».proof.Proof.Reads

@[expose] public section

set_option maxRecDepth 16384

noncomputable section

namespace Cert.KernelIdeal.Result

open Cert.KernelIdeal Cert.KernelIdeal.Gen Cert.KernelIdeal.Layers Cert.KernelIdeal.Dense Cert.KernelIdeal.Reads
open Idealize.ShloMosaic Idealize.ShloMosaic.TcCoe Idealize.ShloMosaic.StableHlo

/-- One layer as the kernel computes it: sums by relation scaled by one over the counts, then the dense layer. -/
def conv (x : FVec Ideal S10000x128 .f32) (e : IVec S2x320000 32) (t : IVec S320000 32)
    (basis : FVec Ideal S8x128x128 .f32) (comp : FVec Ideal S8x8 .f32) (root : FVec Ideal S128x128 .f32)
    (bias : FVec Ideal S128 .f32) : FVec Ideal S10000x128 .f32 :=
  dense (sumsByRelation (byRelation e t) (messages x e)) (inverses (F := Ideal) (byRelation e t)) x (matrices comp basis) root (asRow bias)

variable (m : (ℓ : Loc nD τ sig) → Buf (Elt Ideal) ℓ) (ρ : Dev nD → PrngReg) (c : Dev nD)

/-- An argument array at launch. -/
abbrev arg (a : Ref sig .tc) : Buf (Elt Ideal) ((c : Thread nD τ).loc a) := m ((c : Thread nD τ).loc a)

/-- The edges' segments. -/
abbrev segs : IVec S320000 32 := byRelation (arg m c main_arg1) (arg m c main_arg2)

/-- The first layer's output. -/
def out1 : FVec Ideal S10000x128 .f32 :=
  conv (arg m c main_arg0) (arg m c main_arg1) (arg m c main_arg2) (arg m c main_arg3) (arg m c main_arg4)
    (arg m c main_arg5) (arg m c main_arg6)

/-- The second layer's input. -/
def in2 : FVec Ideal S10000x128 .f32 := leaky (batchNorm (out1 m c) (arg m c main_arg7) (arg m c main_arg8))

/-- The second layer's output. -/
def out2 : FVec Ideal S10000x128 .f32 :=
  conv (in2 m c) (arg m c main_arg1) (arg m c main_arg2) (arg m c main_arg9) (arg m c main_arg10)
    (arg m c main_arg11) (arg m c main_arg12)

/-- The third layer's input. -/
def in3 : FVec Ideal S10000x128 .f32 := leaky (batchNorm (out2 m c) (arg m c main_arg13) (arg m c main_arg14))

/-- The third layer's output. -/
def out3 : FVec Ideal S10000x128 .f32 :=
  conv (in3 m c) (arg m c main_arg1) (arg m c main_arg2) (arg m c main_arg15) (arg m c main_arg16)
    (arg m c main_arg17) (arg m c main_arg18)

/-- The sources, the segments and the inverse counts stay as the first line left them up to the second call. -/
theorem kept7 (r : Ref sig .tc) (h : r = main_v1 ∨ r = main_v6 ∨ r = main_v15) :
    rd (W6 m ρ c) r = rd (W1 m ρ c) r ∧ rd (W7 m ρ c) r = rd (W1 m ρ c) r := by
  have h6 : rd (W6 m ρ c) r = rd (W1 m ρ c) r := by
    rcases h with rfl | rfl | rfl <;>
    exact (W6_of m ρ c _ (by decide)).trans <| (W5_of m ρ c _ (by decide)).trans <| (W4_of m ρ c _ (by decide)).trans <|
      (W3_of m ρ c _ (by decide)).trans (W2_of m ρ c _ (by decide))
  refine ⟨h6, ?_⟩
  rcases h with rfl | rfl | rfl <;> exact (W7_of m ρ c _ (by decide)).trans h6

/-- They stay so up to the third call. -/
theorem kept13 (r : Ref sig .tc) (h : r = main_v1 ∨ r = main_v6 ∨ r = main_v15) :
    rd (W12 m ρ c) r = rd (W1 m ρ c) r ∧ rd (W13 m ρ c) r = rd (W1 m ρ c) r := by
  have h12 : rd (W12 m ρ c) r = rd (W1 m ρ c) r := by
    refine Eq.trans ?_ (kept7 m ρ c r h).2
    rcases h with rfl | rfl | rfl <;>
    exact (W12_of m ρ c _ (by decide)).trans <| (W11_of m ρ c _ (by decide)).trans <| (W10_of m ρ c _ (by decide)).trans <|
      (W9_of m ρ c _ (by decide)).trans (W8_of m ρ c _ (by decide))
  refine ⟨h12, ?_⟩
  rcases h with rfl | rfl | rfl <;> exact (W13_of m ρ c _ (by decide)).trans h12

/-- The first host stretch leaves each edge's source node. -/
theorem entry_source : rd (W1 m ρ c) main_v1 = source (arg m c main_arg1) := first_source (W0 m ρ c)
/-- The first host stretch leaves each edge's segment. -/
theorem entry_segments : rd (W1 m ρ c) main_v6 = segs m c := first_segments (W0 m ρ c)
/-- The first host stretch leaves one over each segment's count. -/
theorem entry_inverses : rd (W1 m ρ c) main_v15 = inverses (F := Ideal) (segs m c) := first_inverses (W0 m ρ c)

/-- The first call leaves the first layer's output. -/
theorem after_first : rd (W2 m ρ c) main_v29 = out1 m c := by
  refine (W2_arr m ρ c 6).trans ((region0 (V1 m ρ) c).trans ?_)
  rw [show V1 m ρ c main_v26 = _ from first_sums (W0 m ρ c), show V1 m ρ c main_v15 = _ from entry_inverses m ρ c,
    show V1 m ρ c main_v27 = _ from first_matrices (W0 m ρ c), show V1 m ρ c main_v28 = _ from first_bias (W0 m ρ c),
    show V1 m ρ c main_arg0 = _ from W1_args m ρ c _ (by decide), show V1 m ρ c main_arg5 = _ from W1_args m ρ c _ (by decide)]
  rfl

/-- The second layer's input, before the line that sums its messages and after it. -/
theorem input_second : rd (W6 m ρ c) main_v49 = in2 m c := by
  refine (second_input (W2 m ρ c)).trans ?_
  rw [after_first, show rd (W2 m ρ c) main_arg7 = _ from W2_args m ρ c _ (by decide),
    show rd (W2 m ρ c) main_arg8 = _ from W2_args m ρ c _ (by decide)]
  rfl

/-- The second call leaves the second layer's output. -/
theorem after_second : rd (W8 m ρ c) main_v63 = out2 m c := by
  refine (W8_arr m ρ c 6).trans ((region1 (V7 m ρ) c).trans ?_)
  rw [show V7 m ρ c main_v60 = _ from second_sums (W6 m ρ c), show V7 m ρ c main_v61 = _ from second_matrices (W6 m ρ c),
    show V7 m ρ c main_v62 = _ from second_bias (W6 m ρ c),
    show V7 m ρ c main_v15 = _ from (kept7 m ρ c _ (by decide)).2.trans (entry_inverses m ρ c),
    show V7 m ρ c main_v49 = _ from (W7_of m ρ c _ (by decide)).trans (input_second m ρ c),
    show V7 m ρ c main_arg11 = _ from W7_args m ρ c _ (by decide), input_second,
    (kept7 m ρ c main_v1 (by decide)).1, (kept7 m ρ c main_v6 (by decide)).1, entry_source, entry_segments,
    show rd (W6 m ρ c) main_arg10 = _ from W6_args m ρ c _ (by decide),
    show rd (W6 m ρ c) main_arg9 = _ from W6_args m ρ c _ (by decide),
    show rd (W6 m ρ c) main_arg12 = _ from W6_args m ρ c _ (by decide)]
  rfl

/-- The third layer's input. -/
theorem input_third : rd (W12 m ρ c) main_v83 = in3 m c := by
  refine (third_input (W8 m ρ c)).trans ?_
  rw [after_second, show rd (W8 m ρ c) main_arg13 = _ from W8_args m ρ c _ (by decide),
    show rd (W8 m ρ c) main_arg14 = _ from W8_args m ρ c _ (by decide)]
  rfl

/-- The third call leaves the third layer's output. -/
theorem after_third : rd (W14 m ρ c) main_v97 = out3 m c := by
  refine (W14_arr m ρ c 6).trans ((region2 (V13 m ρ) c).trans ?_)
  rw [show V13 m ρ c main_v94 = _ from third_sums (W12 m ρ c), show V13 m ρ c main_v95 = _ from third_matrices (W12 m ρ c),
    show V13 m ρ c main_v96 = _ from third_bias (W12 m ρ c),
    show V13 m ρ c main_v15 = _ from (kept13 m ρ c _ (by decide)).2.trans (entry_inverses m ρ c),
    show V13 m ρ c main_v83 = _ from (W13_of m ρ c _ (by decide)).trans (input_third m ρ c),
    show V13 m ρ c main_arg17 = _ from W13_args m ρ c _ (by decide), input_third,
    (kept13 m ρ c main_v1 (by decide)).1, (kept13 m ρ c main_v6 (by decide)).1, entry_source, entry_segments,
    show rd (W12 m ρ c) main_arg16 = _ from W12_args m ρ c _ (by decide),
    show rd (W12 m ρ c) main_arg15 = _ from W12_args m ρ c _ (by decide),
    show rd (W12 m ρ c) main_arg18 = _ from W12_args m ρ c _ (by decide)]
  rfl

/-- At the end the result array holds the third layer's output with its rows scaled. -/
theorem result : rd (W16 m ρ c) main_v102 = unitRows (out3 m c) :=
  (last (W14 m ρ c)).trans (congrArg unitRows (after_third m ρ c))

end Cert.KernelIdeal.Result

end
-- ==== Proof.Conv.lean ====
/- One layer as the reference computes it, and that the kernel's layer is the same when the edges are in range. -/
module

public import proofs.«01_k».proof.Proof.KernelValue
public import proofs.«01_k».proof.Proof.Segments
public import proofs.«01_k».proof.Proof.Gen.ReferenceIdeal

@[expose] public section

set_option maxRecDepth 16384

noncomputable section

namespace Cert.KernelIdeal.Conv

open Cert.KernelIdeal Cert.KernelIdeal.Gen Cert.KernelIdeal.Layers Cert.KernelIdeal.Dense Cert.KernelIdeal.Segments
open Idealize.ShloMosaic
open scoped BigOperators

/-- Each segment's mean message, by node and relation. -/
def means (s : IVec S320000 32) (u : FVec Ideal S320000x128 .f32) : FVec Ideal Cert.ReferenceIdeal.S10000x8x128 .f32 :=
  shapeCast Cert.ReferenceIdeal.S10000x8x128
    (Host.divf (sums s u) (broadcastInDim S80000x128 ![0, 1] Cert.ReferenceIdeal.Gen.bcast_S80000x1_S80000x128_0_1
      (broadcastInDim Cert.ReferenceIdeal.S80000x1 ![0] Cert.ReferenceIdeal.Gen.bcast_S80000_S80000x1_0 (counts s))))
    Cert.ReferenceIdeal.Gen.shapeCasts_S80000x128_S10000x8x128

/-- One layer as the reference computes it. -/
def refConv (x : FVec Ideal S10000x128 .f32) (e : IVec S2x320000 32) (t : IVec S320000 32)
    (basis : FVec Ideal S8x128x128 .f32) (comp : FVec Ideal S8x8 .f32) (root : FVec Ideal S128x128 .f32)
    (bias : FVec Ideal S128 .f32) : FVec Ideal S10000x128 .f32 :=
  addf (addf (Host.dotGeneral Cert.ReferenceIdeal.dot_S10000x8x128_S8x128x128_S10000x128_21_10_0_2_n_n none
      (means (byNode e t) (messages x e)) (matrices comp basis))
    (Host.dotGeneral Cert.ReferenceIdeal.dot_S10000x128_S128x128_S10000x128_1_0_0_1_n_n none x root)) (everyRow bias)

/-- A count is at least one. -/
theorem counts_pos (s : IVec S320000 32) (p : Fin 80000) : (0 : EReal) < counts (F := Ideal) s (ix1 p) := by
  have h : counts (F := Ideal) s (ix1 p) = max (edges s (ix1 p)) 1 := by
    unfold counts segmentOnes
    pointwise
  rw [h]
  exact lt_max_of_lt_right zero_lt_one

/-- Numberings with the same edges at `p` and at `p'` have the same count there. -/
theorem counts_congr {s s' : IVec S320000 32} {p p' : Fin 80000}
    (h : ∀ j : Fin 320000, (s (ix1 j)).toInt = p.val ↔ (s' (ix1 j)).toInt = p'.val) :
    counts (F := Ideal) s (ix1 p) = counts s' (ix1 p') :=
  congrArg (fun v : EReal => FloatOps.maximumf (F := Ideal) (φ := .f32) v (segmentOnes (F := Ideal) (ix1 p))) (edges_congr h)

/-- A mean is the sum of the segment's messages over its count. -/
theorem means_apply (s : IVec S320000 32) (u : FVec Ideal S320000x128 .f32) (n : Fin 10000) (r : Fin 8) (k : Fin 128) :
    means s u (ix3 n r k) = Ideal.div (sums s u (ix2 ⟨n.val * 8 + r.val, by omega⟩ k)) (counts (F := Ideal) s (ix1 ⟨n.val * 8 + r.val, by omega⟩)) := by
  unfold means
  pointwise

/-- An inverse is one over the segment's count. -/
theorem inverses_apply (s : IVec S320000 32) (n : Fin 10000) (r : Fin 8) :
    inverses (F := Ideal) s (ix3 r n 0) = Ideal.div 1 (counts (F := Ideal) s (ix1 ⟨r.val * 10000 + n.val, by omega⟩)) := by
  unfold inverses segmentOnes
  pointwise

/-- The sums by relation are the sums at the segments of that relation. -/
theorem sumsByRelation_apply (s : IVec S320000 32) (u : FVec Ideal S320000x128 .f32) (n : Fin 10000) (r : Fin 8) (k : Fin 128) :
    sumsByRelation s u (ix3 r n k) = sums s u (ix2 ⟨r.val * 10000 + n.val, by omega⟩ k) := by
  unfold sumsByRelation
  pointwise

/-- The one row's entry is the bias's. -/
theorem asRow_apply (v : FVec Ideal S128 .f32) (o : Fin 128) : asRow v (ix2 0 o) = v (ix1 o) := by
  unfold asRow
  pointwise

/-- Scaling by one over a positive number is dividing by it. -/
theorem mul_inv_eq_div (a c : EReal) (h : 0 < c) : a * Ideal.div 1 c = Ideal.div a c := by
  rw [Ideal.div, Ideal.div, if_neg h.ne', if_neg h.ne', one_mul]

/-- The scaled sum of the kernel is the reference's mean. -/
theorem scaled_eq_mean {e : IVec S2x320000 32} {t : IVec S320000 32} (h : InRange e t) (u : FVec Ideal S320000x128 .f32)
    (n : Fin 10000) (r : Fin 8) (k : Fin 128) :
    (sumsByRelation (byRelation e t) u (ix3 r n k) : EReal) * inverses (F := Ideal) (byRelation e t) (ix3 r n 0)
      = means (byNode e t) u (ix3 n r k) := by
  rw [sumsByRelation_apply, inverses_apply, means_apply, mul_inv_eq_div _ _ (counts_pos _ _),
    sums_congr (s' := byNode e t) (p' := ⟨n.val * 8 + r.val, by omega⟩) (same_edges h r.isLt n.isLt),
    counts_congr (s' := byNode e t) (p' := ⟨n.val * 8 + r.val, by omega⟩) (same_edges h r.isLt n.isLt)]

/-- The reference's layer at an entry. -/
theorem refConv_apply (x : FVec Ideal S10000x128 .f32) (e : IVec S2x320000 32) (t : IVec S320000 32)
    (basis : FVec Ideal S8x128x128 .f32) (comp : FVec Ideal S8x8 .f32) (root : FVec Ideal S128x128 .f32)
    (bias : FVec Ideal S128 .f32) (n : Fin 10000) (o : Fin 128) : refConv x e t basis comp root bias (ix2 n o)
      = ((∑ k : Fin 128, ∑ r : Fin 8, (means (byNode e t) (messages x e) (ix3 n r k) : EReal) * matrices comp basis (ix3 r k o))
        + ∑ k : Fin 128, (x (ix2 n k) : EReal) * root (ix2 k o)) + bias (ix1 o) := by
  unfold refConv everyRow
  pointwise

/-- When the edges are in range the kernel's layer is the reference's. -/
theorem conv_eq_refConv {e : IVec S2x320000 32} {t : IVec S320000 32} (h : InRange e t) (x : FVec Ideal S10000x128 .f32)
    (basis : FVec Ideal S8x128x128 .f32) (comp : FVec Ideal S8x8 .f32) (root : FVec Ideal S128x128 .f32)
    (bias : FVec Ideal S128 .f32) : Result.conv x e t basis comp root bias = refConv x e t basis comp root bias := by
  funext i
  obtain ⟨n, o, rfl⟩ : ∃ (n : Fin 10000) (o : Fin 128), i = ix2 n o := ⟨i 0, i 1, eq_ix2 i⟩
  rw [refConv_apply, Finset.sum_comm (s := (Finset.univ : Finset (Fin 128))) (t := (Finset.univ : Finset (Fin 8))),
    add_comm (∑ r : Fin 8, _) (∑ k : Fin 128, (x (ix2 n k) : EReal) * root (ix2 k o))]
  refine congrArg₂ (· + ·) (congrArg₂ (· + ·) rfl (Finset.sum_congr rfl fun r _ => Finset.sum_congr rfl fun k _ => ?_))
    (asRow_apply bias o)
  exact congrArg (· * (matrices comp basis (ix3 r k o) : EReal)) (scaled_eq_mean h (messages x e) n r k)

end Cert.KernelIdeal.Conv

end
-- ==== Proof.Network.lean ====
/- The kernel's result is a network of three layers; with the edges in range it is the same network over the
   reference's layer. -/
module

public import proofs.«01_k».proof.Proof.Conv

@[expose] public section

set_option maxRecDepth 16384

noncomputable section

namespace Cert.KernelIdeal.Network

open Cert.KernelIdeal Cert.KernelIdeal.Layers Cert.KernelIdeal.Segments Cert.KernelIdeal.Conv
open Idealize.ShloMosaic Idealize.ShloMosaic.TcCoe Idealize.ShloMosaic.StableHlo

/-- A layer: node features, edges, their relations, bases, combinations, root weights and bias to node features. -/
abbrev Layer : Type :=
  FVec Ideal S10000x128 .f32 → IVec S2x320000 32 → IVec S320000 32 → FVec Ideal S8x128x128 .f32 → FVec Ideal S8x8 .f32 →
    FVec Ideal S128x128 .f32 → FVec Ideal S128 .f32 → FVec Ideal S10000x128 .f32

/-- Three layers, the first two normalised over the nodes and passed through the leaky activation, the last with its
rows scaled to length one. -/
def network (L : Layer) (x : FVec Ideal S10000x128 .f32) (e : IVec S2x320000 32) (t : IVec S320000 32)
    (b1 : FVec Ideal S8x128x128 .f32) (c1 : FVec Ideal S8x8 .f32) (r1 : FVec Ideal S128x128 .f32) (s1 g1 o1 : FVec Ideal S128 .f32)
    (b2 : FVec Ideal S8x128x128 .f32) (c2 : FVec Ideal S8x8 .f32) (r2 : FVec Ideal S128x128 .f32) (s2 g2 o2 : FVec Ideal S128 .f32)
    (b3 : FVec Ideal S8x128x128 .f32) (c3 : FVec Ideal S8x8 .f32) (r3 : FVec Ideal S128x128 .f32) (s3 : FVec Ideal S128 .f32) :
    FVec Ideal S10000x128 .f32 :=
  unitRows (L (leaky (batchNorm (L (leaky (batchNorm (L x e t b1 c1 r1 s1) g1 o1)) e t b2 c2 r2 s2) g2 o2)) e t b3 c3 r3 s3)

/-- With the edges in range the network is the same over the kernel's layer and over the reference's. -/
theorem network_eq {e : IVec S2x320000 32} {t : IVec S320000 32} (h : InRange e t) (x : FVec Ideal S10000x128 .f32)
    (b1 : FVec Ideal S8x128x128 .f32) (c1 : FVec Ideal S8x8 .f32) (r1 : FVec Ideal S128x128 .f32) (s1 g1 o1 : FVec Ideal S128 .f32)
    (b2 : FVec Ideal S8x128x128 .f32) (c2 : FVec Ideal S8x8 .f32) (r2 : FVec Ideal S128x128 .f32) (s2 g2 o2 : FVec Ideal S128 .f32)
    (b3 : FVec Ideal S8x128x128 .f32) (c3 : FVec Ideal S8x8 .f32) (r3 : FVec Ideal S128x128 .f32) (s3 : FVec Ideal S128 .f32) :
    network Result.conv x e t b1 c1 r1 s1 g1 o1 b2 c2 r2 s2 g2 o2 b3 c3 r3 s3
      = network refConv x e t b1 c1 r1 s1 g1 o1 b2 c2 r2 s2 g2 o2 b3 c3 r3 s3 := by
  unfold network
  rw [conv_eq_refConv h, conv_eq_refConv h, conv_eq_refConv h]

variable (m : (ℓ : Loc nD τ sig) → Buf (Elt Ideal) ℓ) (c : Dev nD)

/-- The kernel's third layer with its rows scaled is the network over the kernel's layer. -/
theorem kernel_network : unitRows (Result.out3 m c)
    = network Result.conv (Result.arg m c main_arg0) (Result.arg m c main_arg1) (Result.arg m c main_arg2)
        (Result.arg m c main_arg3) (Result.arg m c main_arg4) (Result.arg m c main_arg5) (Result.arg m c main_arg6)
        (Result.arg m c main_arg7) (Result.arg m c main_arg8) (Result.arg m c main_arg9) (Result.arg m c main_arg10)
        (Result.arg m c main_arg11) (Result.arg m c main_arg12) (Result.arg m c main_arg13) (Result.arg m c main_arg14)
        (Result.arg m c main_arg15) (Result.arg m c main_arg16) (Result.arg m c main_arg17) (Result.arg m c main_arg18) := rfl

end Cert.KernelIdeal.Network

end
-- ==== Proof.Reference.lean ====
/- The reference's result is the same network of three layers, over the reference's layer. -/
module

public import proofs.«01_k».proof.Proof.Network
public import proofs.«01_k».proof.Proof.Gen.ReferenceIdeal.Run

@[expose] public section

set_option maxRecDepth 16384

noncomputable section

namespace Cert.ReferenceIdeal.Network

open Cert.ReferenceIdeal Cert.ReferenceIdeal.Value
open Cert.KernelIdeal.Layers (batchNorm leaky unitRows)
open Cert.KernelIdeal.Conv (refConv)
open Cert.KernelIdeal.Network (network)
open Idealize.ShloMosaic Idealize.ShloMosaic.TcCoe Idealize.ShloMosaic.StableHlo

variable (V : Valuation τ sig (Elt Ideal))

/-- An argument array among the reference's arrays. -/
abbrev at_ (a : Ref sig .tc) := V (Proc.devRef .tc a)

/-- The reference's first layer. -/
theorem first_layer : res_main_v33 V = refConv (at_ V main_arg0) (at_ V main_arg1) (at_ V main_arg2) (at_ V main_arg3)
    (at_ V main_arg4) (at_ V main_arg5) (at_ V main_arg6) := rfl

/-- The reference's second layer's input. -/
theorem second_input : res_main_v53 V = leaky (batchNorm (res_main_v33 V) (at_ V main_arg7) (at_ V main_arg8)) := rfl

/-- The reference's second layer. -/
theorem second_layer : res_main_v87 V = refConv (res_main_v53 V) (at_ V main_arg1) (at_ V main_arg2) (at_ V main_arg9)
    (at_ V main_arg10) (at_ V main_arg11) (at_ V main_arg12) := rfl

/-- The reference's third layer's input. -/
theorem third_input : res_main_v107 V = leaky (batchNorm (res_main_v87 V) (at_ V main_arg13) (at_ V main_arg14)) := rfl

/-- The reference's third layer. -/
theorem third_layer : res_main_v141 V = refConv (res_main_v107 V) (at_ V main_arg1) (at_ V main_arg2) (at_ V main_arg15)
    (at_ V main_arg16) (at_ V main_arg17) (at_ V main_arg18) := rfl

/-- The reference's third layer with its rows scaled is the network over the reference's layer. -/
theorem reference_network : unitRows (res_main_v141 V)
    = network refConv (at_ V main_arg0) (at_ V main_arg1) (at_ V main_arg2) (at_ V main_arg3) (at_ V main_arg4) (at_ V main_arg5)
        (at_ V main_arg6) (at_ V main_arg7) (at_ V main_arg8) (at_ V main_arg9) (at_ V main_arg10) (at_ V main_arg11)
        (at_ V main_arg12) (at_ V main_arg13) (at_ V main_arg14) (at_ V main_arg15) (at_ V main_arg16) (at_ V main_arg17)
        (at_ V main_arg18) := by
  rw [third_layer, third_input, second_layer, second_input, first_layer]
  rfl

end Cert.ReferenceIdeal.Network

end
-- ==== Proof.Equation.lean ====
/- From memories that agree on the arguments, with the edges in range, the kernel and the reference end with equal
   results. -/
module

public import proofs.«01_k».proof.Defs
public import proofs.«01_k».proof.Proof.KernelRun
public import proofs.«01_k».proof.Proof.Range
public import proofs.«01_k».proof.Proof.Reference

@[expose] public section

set_option maxRecDepth 16384

noncomputable section

namespace Cert.Equation

open Cert.KernelIdeal.Layers (unitRows)
open Cert.KernelIdeal.Result (out3)
open Cert.ReferenceIdeal.Value (res_main_v141)
open Idealize.ShloMosaic Idealize.ShloMosaic.TcCoe Idealize.ShloMosaic.StableHlo Idealize.SL.Sem

/-- The kernel and the reference end with equal results and with their arguments unchanged. -/
theorem algebraic : @Cert.algebraic_KernelIdeal_ReferenceIdeal_pre_edges_in_range Cert.KernelIdeal.Gen.facts
    Cert.ReferenceIdeal.Gen.facts Cert.KernelIdeal.Range.preFacts := by
  intro m g m' g' hpre hargs
  have same : ∀ c, unitRows (res_main_v141 (launchContents m' c)) = unitRows (out3 m c) := fun c => by
    obtain ⟨h0, h1, h2, h3, h4, h5, h6, h7, h8, h9, h10, h11, h12, h13, h14, h15, h16, h17, h18⟩ := hargs c
    rw [Cert.ReferenceIdeal.Network.reference_network, Cert.KernelIdeal.Network.kernel_network,
      Cert.KernelIdeal.Network.network_eq (Cert.KernelIdeal.Range.inRange_of_pre (hpre c))]
    unfold Cert.ReferenceIdeal.Network.at_ launchContents
    rw [h0, h1, h2, h3, h4, h5, h6, h7, h8, h9, h10, h11, h12, h13, h14, h15, h16, h17, h18]
  refine ⟨fun c => unitRows (out3 m c), (θ_run _ _ _).mono (fun r h c => ?_) (Cert.KernelIdeal.Run.run m g),
    (θ_run _ _ _).mono (fun r h c => ⟨(h c).1.trans (same c), (h c).2⟩) (Cert.ReferenceIdeal.Value.run m' g')⟩
  refine ⟨(h c _ (Cert.KernelIdeal.Gen.mem_uc _ (by decide))).trans (Cert.KernelIdeal.Result.result m g c), ?_⟩
  and_intros <;>
    exact (h c _ (Cert.KernelIdeal.Gen.mem_uc _ (by decide))).trans (Cert.KernelIdeal.Gen.W16_args m g c _ (by decide))

end Cert.Equation

end
-- ==== Proof.ReferenceFrame.lean ====
/- Every run of the reference ends with its arguments unchanged and every counter at zero. -/
module

public import proofs.«01_k».proof.Defs
public import proofs.«01_k».proof.Proof.Gen.ReferenceIdeal.Run
public import Idealize.ShloMosaic.Lib.Quiescent

@[expose] public section

noncomputable section

namespace Cert.ReferenceIdeal.Frame

open Idealize.ShloMosaic Idealize.SL.Sem

/-- The reference, which has no counters, ends with its arguments unchanged. -/
theorem frame : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

end Cert.ReferenceIdeal.Frame

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.ReferenceFrame
public import Idealize.ShloMosaic.Adequacy
public import Idealize.ShloMosaic.Init

@[expose] public section

noncomputable section

namespace Cert.Proof

open Idealize.ShloMosaic Idealize.SL.Sem

/-- The certificate's claims. -/
theorem claim : Cert.Claim :=
  ⟨Cert.Kernel.Gen.facts, Cert.KernelIdeal.Gen.facts, Cert.ReferenceIdeal.Gen.facts, Cert.KernelIdeal.Range.preFacts,
    fun m g _ => Cert.Kernel.Gen.frame m g, fun m g _ => Cert.KernelIdeal.Gen.frame m g,
    fun m g _ => Cert.KernelIdeal.Gen.frame m g, fun m g _ => Cert.ReferenceIdeal.Frame.frame m g trivial, fun m g _ => Cert.ReferenceIdeal.Frame.frame m g trivial,
    trivial, Cert.Equation.algebraic⟩

end Cert.Proof

end
